-- ==== Defs.lean ====
def Pre_Kernel (m : (ℓ : Loc Cert.Kernel.nD Cert.Kernel.τ Cert.Kernel.sig) → Buf (Elt Bits) ℓ) : Prop :=
  True

def Pre_Kernel_no_wrapped_row [hPre_no_wrapped_row : Cert.Pre_no_wrapped_row.Facts] (m : (ℓ : Loc Cert.Kernel.nD Cert.Kernel.τ Cert.Kernel.sig) → Buf (Elt Bits) ℓ) : Prop :=
  ∀ c : Dev Cert.Kernel.nD,
    (Cert.Pre_no_wrapped_row.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_no_wrapped_row [hPre_no_wrapped_row : Cert.Pre_no_wrapped_row.Facts] (m : (ℓ : Loc Cert.KernelIdeal.nD Cert.KernelIdeal.τ Cert.KernelIdeal.sig) → Buf (Elt Ideal) ℓ) : Prop :=
  ∀ c : Dev Cert.KernelIdeal.nD,
    (Cert.Pre_no_wrapped_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_wrapped_row [hPre_no_wrapped_row : Cert.Pre_no_wrapped_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_wrapped_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_no_wrapped_row : Cert.Pre_no_wrapped_row.Facts] (m : (ℓ : Loc Cert.Reference.nD Cert.Reference.τ Cert.Reference.sig) → Buf (Elt Bits) ℓ) : Prop :=
  ∀ c : Dev Cert.Reference.nD,
    (Cert.Pre_no_wrapped_row.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_no_wrapped_row [hKernel : Cert.Kernel.Facts] [hPre_no_wrapped_row : Cert.Pre_no_wrapped_row.Facts] : Prop :=
  ∀ (m : (ℓ : Loc Cert.Kernel.nD Cert.Kernel.τ Cert.Kernel.sig) → Buf (Elt Bits) ℓ) (g : Dev Cert.Kernel.nD → PrngReg), Pre_Kernel_no_wrapped_row m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_wrapped_row [hKernelIdeal : Cert.KernelIdeal.Facts] [hPre_no_wrapped_row : Cert.Pre_no_wrapped_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_wrapped_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_wrapped_row [hReferenceIdeal : Cert.ReferenceIdeal.Facts] [hPre_no_wrapped_row : Cert.Pre_no_wrapped_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_wrapped_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_no_wrapped_row : Cert.Pre_no_wrapped_row.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal_pre_no_wrapped_row [hKernelIdeal : Cert.KernelIdeal.Facts] [hReferenceIdeal : Cert.ReferenceIdeal.Facts] [hPre_no_wrapped_row : Cert.Pre_no_wrapped_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_wrapped_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference_pre_no_wrapped_row [hKernel : Cert.Kernel.Facts] [hReference : Cert.Reference.Facts] [hPre_no_wrapped_row : Cert.Pre_no_wrapped_row.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_no_wrapped_row m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_no_wrapped_row : Cert.Pre_no_wrapped_row.Facts),
    quiescent_Kernel (hKernel := hKernel)
    ∧ quiescent_Kernel_pre_no_wrapped_row (hKernel := hKernel) (hPre_no_wrapped_row := hPre_no_wrapped_row)
    ∧ quiescent_KernelIdeal (hKernelIdeal := hKernelIdeal)
    ∧ quiescent_KernelIdeal_pre_no_wrapped_row (hKernelIdeal := hKernelIdeal) (hPre_no_wrapped_row := hPre_no_wrapped_row)
    ∧ quiescent_ReferenceIdeal (hReferenceIdeal := hReferenceIdeal)
    ∧ quiescent_ReferenceIdeal_pre_no_wrapped_row (hReferenceIdeal := hReferenceIdeal) (hPre_no_wrapped_row := hPre_no_wrapped_row)
    ∧ quiescent_Reference (hReference := hReference) (hPre_no_wrapped_row := hPre_no_wrapped_row)
    ∧ preserves_Kernel_KernelIdeal
    ∧ algebraic_KernelIdeal_ReferenceIdeal_pre_no_wrapped_row (hKernelIdeal := hKernelIdeal) (hReferenceIdeal := hReferenceIdeal) (hPre_no_wrapped_row := hPre_no_wrapped_row)
    ∧ bitexact_Kernel_Reference_pre_no_wrapped_row (hKernel := hKernel) (hReference := hReference) (hPre_no_wrapped_row := hPre_no_wrapped_row)
-- ==== Pre_no_wrapped_row.lean ====
abbrev S10x1 : Shape := ⟨2, ![10, 1]⟩
abbrev S1 : Shape := ⟨1, ![1]⟩
abbrev S2x1x10 : Shape := ⟨3, ![2, 1, 10]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S10x1 .f32) (main_arg1 : IVec S1 32) (main_arg2 : FVec F S2x1x10 .f32) : IVec S1 1 :=
  let main_c : IVec S_ 32 := constantI S_ 32 4294967295#32
  let main_v0 : IVec S1 32 := broadcastInDim S1 ![] bcast_S_S1 main_c
  let main_v1 : IVec S1 1 := cmpi .ne main_arg1 main_v0
  let main_c_0 : IVec S_ 32 := constantI S_ 32 4294967294#32
  let main_v2 : IVec S1 32 := broadcastInDim S1 ![] bcast_S_S1 main_c_0
  let main_v3 : IVec S1 1 := cmpi .ne main_arg1 main_v2
  let main_v4 : IVec S1 1 := andi main_v1 main_v3
  main_v4
-- ==== Kernel.lean ====
abbrev S10x1 : Shape := ⟨2, ![10, 1]⟩
abbrev S1 : Shape := ⟨1, ![1]⟩
abbrev S2x1x10 : Shape := ⟨3, ![2, 1, 10]⟩
abbrev S1x10 : Shape := ⟨2, ![1, 10]⟩
abbrev S1x1x10 : Shape := ⟨3, ![1, 1, 10]⟩

abbrev nBuf : Space → Nat
  | .hbm => 5
  | .vmem => 3
  | .smem => 1
  | _ => 0

abbrev bufTy : (tb : Table) → Fin (tcTables nBuf tb) → BufTy
  | .hbm, ⟨0, _⟩ => ⟨S10x1, .f32⟩
  | .hbm, ⟨1, _⟩ => ⟨S1, .i32⟩
  | .hbm, ⟨2, _⟩ => ⟨S2x1x10, .f32⟩
  | .hbm, ⟨3, _⟩ => ⟨S1x10, .f32⟩
  | .hbm, ⟨4, _⟩ => ⟨S2x1x10, .f32⟩
  | .local _ .vmem, ⟨0, _⟩ => ⟨S1x10, .f32⟩
  | .local _ .vmem, ⟨1, _⟩ => ⟨S2x1x10, .f32⟩
  | .local _ .vmem, ⟨2, _⟩ => ⟨S2x1x10, .f32⟩
  | .local _ .smem, ⟨0, _⟩ => ⟨S1, .i32⟩
  | _, _ => ⟨S10x1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference.lean ====
abbrev S10x1 : Shape := ⟨2, ![10, 1]⟩
abbrev S1 : Shape := ⟨1, ![1]⟩
abbrev S2x1x10 : Shape := ⟨3, ![2, 1, 10]⟩
abbrev S10 : Shape := ⟨1, ![10]⟩
abbrev S1x10 : Shape := ⟨2, ![1, 10]⟩
abbrev S_ : Shape := ⟨0, ![]⟩
abbrev S10x3 : Shape := ⟨2, ![10, 3]⟩

abbrev nBuf : Space → Nat
  | .hbm => 28
  | .vmem => 0
  | .smem => 0
  | _ => 0

abbrev bufTy : (tb : Table) → Fin (tcTables nBuf tb) → BufTy
  | .hbm, ⟨0, _⟩ => ⟨S10x1, .f32⟩
  | .hbm, ⟨1, _⟩ => ⟨S1, .i32⟩
  | .hbm, ⟨2, _⟩ => ⟨S2x1x10, .f32⟩
  | .hbm, ⟨3, _⟩ => ⟨S10, .i32⟩
  | .hbm, ⟨4, _⟩ => ⟨S1x10, .f32⟩
  | .hbm, ⟨5, _⟩ => ⟨S_, .i32⟩
  | .hbm, ⟨6, _⟩ => ⟨S10, .f32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S10, .i32⟩
  | .hbm, ⟨14, _⟩ => ⟨S10, .i1⟩
  | .hbm, ⟨15, _⟩ => ⟨S_, .i32⟩
  | .hbm, ⟨16, _⟩ => ⟨S10, .i32⟩
  | .hbm, ⟨17, _⟩ => ⟨S10, .i32⟩
  | .hbm, ⟨18, _⟩ => ⟨S10, .i32⟩
  | .hbm, ⟨19, _⟩ => ⟨S10, .i32⟩
  | .hbm, ⟨20, _⟩ => ⟨S_, .i32⟩
  | .hbm, ⟨21, _⟩ => ⟨S10, .i32⟩
  | .hbm, ⟨22, _⟩ => ⟨S10, .i32⟩
  | .hbm, ⟨23, _⟩ => ⟨S10x1, .i32⟩
  | .hbm, ⟨24, _⟩ => ⟨S10x1, .i32⟩
  | .hbm, ⟨25, _⟩ => ⟨S10x1, .i32⟩
  | .hbm, ⟨26, _⟩ => ⟨S10x3, .i32⟩
  | .hbm, ⟨27, _⟩ => ⟨S2x1x10, .f32⟩
  | _, _ => ⟨S10x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Condition.lean ====
/- The condition `no_wrapped_row` of the value claims: the fact its program takes, and what it says of the index word. -/
module

public import proofs.«01_k».proof.Defs
public import Idealize.ShloMosaic.Lib.Pointwise

@[expose] public section

noncomputable section

namespace Cert.Condition

open Idealize.ShloMosaic

/-- A single word spreads over an array of one word. -/
theorem facts : Cert.Pre_no_wrapped_row.Facts := ⟨by decide⟩

variable {F : FTy → Type} [FloatOps F]

/-- Where the condition holds, the index word is neither -1 nor -2. -/
theorem not_wrapped [Cert.Pre_no_wrapped_row.Facts] {u : FVec F Cert.Pre_no_wrapped_row.S10x1 .f32} {i : IVec Cert.Pre_no_wrapped_row.S1 32}
    {x : FVec F Cert.Pre_no_wrapped_row.S2x1x10 .f32} (h : Cert.Pre_no_wrapped_row.fn u i x = fun _ => 1#1) :
    i (ix1 (0 : Fin 1)) ≠ 4294967295#32 ∧ i (ix1 (0 : Fin 1)) ≠ 4294967294#32 := by
  have h0 : IntOp.cmpi .ne (i (ix1 (0 : Fin 1))) 4294967295#32 &&& IntOp.cmpi .ne (i (ix1 (0 : Fin 1))) 4294967294#32 = 1#1 :=
    congrFun h (ix1 (0 : Fin 1))
  constructor
  · intro e
    rw [e] at h0
    exact absurd h0 (by decide)
  · intro e
    rw [e] at h0
    exact absurd h0 (by decide)

end Cert.Condition

end
-- ==== Proof.RowWrite.lean ====
/- The mathematics of the row write, with no program in it: an `A × B × N` array one of whose rows `(i, b, ·)` is overwritten by a vector of `N`
   values. `written` states the array that results at one index word, read signed: a word that names no plane leaves the array as it was.
   `scatter_row` reads a scatter of `N` scalars, each at three index words, as such a row write. `wrap_hits` says when jnp's wrap of a negative
   index (`i + 2` for `i < 0`) names the same plane as the index itself. -/
module

public import Idealize.ShloMosaic.Lib.Routing.OpsSet
public import Idealize.ShloMosaic.Lib.Routing.OpsPair

@[expose] public section

namespace Cert.RowWrite

open Idealize.ShloMosaic Idealize.ShloMosaic.ValueIdx Idealize.ShloMosaic.Routing

/-- The array `x` with row `(i, 0, ·)` overwritten by `u`, where `i` is the word `w` read signed: entry `(a, b, n)` is `u n` where `a` is `i`, and `x`'s
    entry elsewhere. No entry changes where `i` is not a plane of the array. -/
def written {α : Type} {A N : Nat} (w : BitVec 32) (u : Fin N → α) (x : (shape3 A 1 N).Idx → α) : (shape3 A 1 N).Idx → α :=
  fun j => if w.toInt = ((j 0).val : Int) then u (j 2) else x j

section Scatter

variable {A B N : Nat} (d : ScatterDims (shape3 A B N) (shape2 N 3) (shape1 N))

/-- The start of update `k` on axis `q` is its index word `q`, read signed. -/
theorem start_word (huw : d.updateWindowDims = []) (hsd : d.scatterDimsToOperandDims = [0, 1, 2]) (hivd : d.indexVectorDim = 1)
    (idx : IVec (shape2 N 3) 32) (k : (shape1 N).Idx) (q : Fin 3) : d.start k idx q = (idx (ix2 (k 0) q)).toInt := by
  have hm : q ∈ d.scatterDimsToOperandDims := by rw [hsd]; fin_cases q <;> simp
  have hpos : d.scatterDimsToOperandDims.idxOf q = q.val := by rw [hsd]; fin_cases q <;> rfl
  unfold ScatterDims.start
  rw [dif_pos hm]
  refine congrArg (fun t => (idx t).toInt) (funext fun b => Fin.ext ?_)
  match b with
  | ⟨0, _⟩ =>
    unfold ScatterDims.siIdx
    rw [dif_neg (by rw [hivd]; exact Nat.zero_ne_one)]
    have one : ∀ X : Fin 1, (k X).val = (k 0).val := fun X => by rw [Subsingleton.elim X 0]
    exact one _
  | ⟨1, _⟩ =>
    unfold ScatterDims.siIdx
    rw [dif_pos (by rw [hivd])]
    exact hpos

/-- Every axis of the operand is an inserted one, so the window adds nothing. -/
theorem window_zero (hiw : d.insertedWindowDims = [0, 1, 2]) (k : (shape1 N).Idx) (q : Fin 3) : d.window k q = 0 := by
  unfold ScatterDims.window
  rw [dif_neg fun h => (of_decide_eq_true (List.mem_filter.1 h).2) (by rw [hiw]; fin_cases q <;> simp)]

/-- Update `k` lands at the entry `ι` exactly when its three index words, read signed, are `ι`'s coordinates. -/
theorem lands (huw : d.updateWindowDims = []) (hiw : d.insertedWindowDims = [0, 1, 2]) (hsd : d.scatterDimsToOperandDims = [0, 1, 2])
    (hivd : d.indexVectorDim = 1) (idx : IVec (shape2 N 3) 32) (k : (shape1 N).Idx) (ι : (shape3 A B N).Idx) :
    d.resultIdx? k idx = some ι ↔ ∀ q : Fin 3, (idx (ix2 (k 0) q)).toInt = ((ι q).val : Int) := by
  rw [resultIdx?_eq_some]
  refine forall_congr' fun q => ?_
  rw [start_word d huw hsd hivd, window_zero d hiw, Int.natCast_zero, Int.add_zero]

end Scatter

/-- A scatter that sets, whose update `k` has the index words `w`, zero and `k`, is the row write at `w`. -/
theorem scatter_row {α : Type} {A N : Nat} (d : ScatterDims (shape3 A 1 N) (shape2 N 3) (shape1 N)) (huw : d.updateWindowDims = [])
    (hiw : d.insertedWindowDims = [0, 1, 2]) (hsd : d.scatterDimsToOperandDims = [0, 1, 2]) (hivd : d.indexVectorDim = 1)
    (x : (shape3 A 1 N).Idx → α) (idx : IVec (shape2 N 3) 32) (u : (shape1 N).Idx → α) (w : BitVec 32)
    (h0 : ∀ k : Fin N, idx (ix2 k (0 : Fin 3)) = w) (h1 : ∀ k : Fin N, idx (ix2 k (1 : Fin 3)) = 0#32)
    (h2 : ∀ k : Fin N, (idx (ix2 k (2 : Fin 3))).toInt = (k.val : Int)) (j : (shape3 A 1 N).Idx) :
    Host.scatter d (fun _ b => b) x idx u j = written w (fun n => u (ix1 n)) x j := by
  have hit : ∀ k : (shape1 N).Idx, d.resultIdx? k idx = some j ↔ w.toInt = ((j 0).val : Int) ∧ k 0 = j 2 := fun k => by
    rw [lands d huw hiw hsd hivd]
    constructor
    · intro h
      have a := (congrArg BitVec.toInt (h0 (k 0))).symm.trans (h 0)
      have c := (h2 (k 0)).symm.trans (h 2)
      exact ⟨a, Fin.ext (Int.ofNat.inj c)⟩
    · rintro ⟨a, c⟩ q
      match q with
      | ⟨0, _⟩ => exact (congrArg BitVec.toInt (h0 (k 0))).trans a
      | ⟨1, _⟩ =>
        have z : ((j 1).val : Int) = 0 := by
          have := (j 1).isLt
          change (j 1).val < 1 at this
          omega
        exact (congrArg BitVec.toInt (h1 (k 0))).trans z.symm
      | ⟨2, _⟩ => exact (h2 (k 0)).trans (congrArg (fun t : Fin N => (t.val : Int)) c)
  unfold written
  by_cases hw : w.toInt = ((j 0).val : Int)
  · rw [if_pos hw]
    exact scatter_set_hit d x idx u j _ (fun k hk => congrArg u ((eq_ix1 k).trans (congrArg ix1 ((hit k).1 hk).2))) (ix1 (j 2)) ((hit _).2 ⟨hw, rfl⟩)
  · rw [if_neg hw]
    exact scatter_set_miss d x idx u j fun k hk => hw ((hit k).1 hk).1

/-- jnp's wrap of an index into two planes: two is added to a negative word. -/
def wrap (i : BitVec 32) : BitVec 32 := if i.toInt < 0 then i + 2#32 else i

/-- Where the word is neither -1 nor -2, its wrap names plane `a` exactly when the word itself does. -/
theorem wrap_hits (i : BitVec 32) (h1 : i ≠ 4294967295#32) (h2 : i ≠ 4294967294#32) (a : Nat) :
    (wrap i).toInt = (a : Int) ↔ i.toInt = (a : Int) := by
  unfold wrap
  split
  · next neg =>
    have n1 : i.toNat ≠ 4294967295 := fun e => h1 (BitVec.eq_of_toNat_eq e)
    have n2 : i.toNat ≠ 4294967294 := fun e => h2 (BitVec.eq_of_toNat_eq e)
    have lt := i.isLt
    rw [BitVec.toInt_eq_toNat_cond] at neg ⊢
    rw [BitVec.toInt_eq_toNat_cond, BitVec.toNat_add]
    have two : (2#32).toNat = 2 := rfl
    rw [two]
    split at neg <;> split <;> omega
  · exact Iff.rfl

/-- The word of a plane `a` equals the word `i` exactly when `i`, read signed, is `a`. -/
theorem ofNat_eq_iff (i : BitVec 32) (a : Nat) (ha : a < 2 ^ 31) : BitVec.ofNat 32 a = i ↔ i.toInt = (a : Int) := by
  have lt := i.isLt
  constructor
  · rintro rfl
    exact StableHlo.Predicate.toInt_ofNat_small _ ha
  · intro e
    refine BitVec.eq_of_toNat_eq ?_
    rw [BitVec.toNat_ofNat]
    rw [BitVec.toInt_eq_toNat_cond] at e
    split at e <;> omega

end Cert.RowWrite
-- ==== Proof.KernelValue.lean ====
/- What the kernel's result array holds after the run, at any float values: the parameters with one row overwritten (`RowWrite.written`).
   The kernel's program and its idealized reading are two programs with the same text, so each fact stands here once for each; the payload that
   both store is read once (`stored`). -/
module

public import proofs.«01_k».proof.Proof.RowWrite
public import proofs.«01_k».proof.Proof.Gen.Kernel.Value
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

noncomputable section

namespace Cert.KernelValue

open Idealize.ShloMosaic Idealize.ShloMosaic.TcCoe Idealize.SL.Sem

variable {F : FTy → Type} [FloatOps F]

/-- What the body stores, read at an entry: the row that the index word names holds the update, every other entry the parameters' own. -/
theorem stored (w : BitVec 32) (u : FVec F Cert.Kernel.S1x10 .f32) (x : FVec F Cert.Kernel.S2x1x10 .f32) (j : Cert.Kernel.S2x1x10.Idx) :
    Cert.Kernel.Gen.k0_pay1 (F := F) w u x j = RowWrite.written w (fun n => u (ix2 (0 : Fin 1) n)) x j := by
  unfold Cert.Kernel.Gen.k0_pay1 RowWrite.written
  pointwise
  rw [IntOp.cmpi, Scalar.select_ofBool]
  refine if_congr ?_ rfl rfl
  rw [beq_iff_eq]
  exact RowWrite.ofNat_eq_iff w (j 0).val (lt_trans (j 0).isLt (by decide))

end Cert.KernelValue

namespace Cert.Kernel.RowValue

open Cert.Kernel Cert.Kernel.Gen Idealize.ShloMosaic Idealize.ShloMosaic.TcCoe Idealize.SL.Sem

variable {F : FTy → Type} [FloatOps F] (m : (ℓ : Loc nD τ sig) → Buf (Elt F) ℓ)

/-- Every window's block at the one point starts at its array's start. -/
theorem places : ∀ t : Fin cfg0.N, win0_0.index t = ![0] ∧ win0_1.index t = ![0, 0] ∧ win0_2.index t = ![0, 0, 0] :=
  (by decide +kernel : ∀ t : Fin grid0.N, _)

/-- The word block at the one point is the index argument. -/
theorem block_word (c : Dev nD) : iblk m c 0 t0_0 = m ((c : Thread nD τ).loc main_arg1) := by
  blk_ext! [iblk, V, places t0_0]

/-- The parameter block at the one point is the parameter argument. -/
theorem block_params (c : Dev nD) : iblk m c 2 t0_0 = m ((c : Thread nD τ).loc main_arg2) := by
  blk_ext! [iblk, V, places t0_0]

/-- The update block at the one point is the update argument laid out as a row. -/
theorem block_update (c : Dev nD) (n : Fin 10) : iblk m c 1 t0_0 (ix2 (0 : Fin 1) n) = m ((c : Thread nD τ).loc main_arg0) (ix2 n (0 : Fin 1)) := by
  blk_ext! [iblk, V, places t0_0]

/-- After the run the result array is the parameters with the row that the index word names overwritten by the update. -/
theorem final (c : Dev nD) : (dats m 0 c).arrAt 3 cfg0.N
    = RowWrite.written (m ((c : Thread nD τ).loc main_arg1) (ix1 (0 : Fin 1))) (fun n => m ((c : Thread nD τ).loc main_arg0) (ix2 n (0 : Fin 1)))
        (m ((c : Thread nD τ).loc main_arg2)) := by
  refine (dats m 0 c).arrAt_eq_of_after_last 3 t0_0 (by decide +kernel) _ fun j => ?_
  blk_simp
  rw [after0_3]
  unfold outsAt0
  frame_out
  simp only [read_unread_whole]
  refine (Cert.KernelValue.stored _ _ _ j).trans ?_
  unfold RowWrite.written
  rw [block_word, block_params]
  refine if_congr (Eq.to_iff (congrArg (fun k => (m ((c : Thread nD τ).loc main_arg1) k).toInt = ((j 0).val : Int)) ?_)) (block_update m c (j 2)) rfl
  exact funext fun a => match a with
    | ⟨0, _⟩ => rfl

end Cert.Kernel.RowValue

namespace Cert.KernelIdeal.RowValue

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- Every window's block at the one point starts at its array's start. -/
theorem places : ∀ t : Fin cfg0.N, win0_0.index t = ![0] ∧ win0_1.index t = ![0, 0] ∧ win0_2.index t = ![0, 0, 0] :=
  (by decide +kernel : ∀ t : Fin grid0.N, _)

/-- The word block at the one point is the index argument. -/
theorem block_word (c : Dev nD) : iblk m c 0 t0_0 = m ((c : Thread nD τ).loc main_arg1) := by
  blk_ext! [iblk, V, places t0_0]

/-- The parameter block at the one point is the parameter argument. -/
theorem block_params (c : Dev nD) : iblk m c 2 t0_0 = m ((c : Thread nD τ).loc main_arg2) := by
  blk_ext! [iblk, V, places t0_0]

/-- The update block at the one point is the update argument laid out as a row. -/
theorem block_update (c : Dev nD) (n : Fin 10) : iblk m c 1 t0_0 (ix2 (0 : Fin 1) n) = m ((c : Thread nD τ).loc main_arg0) (ix2 n (0 : Fin 1)) := by
  blk_ext! [iblk, V, places t0_0]

/-- After the run the result array is the parameters with the row that the index word names overwritten by the update. -/
theorem final (c : Dev nD) : (dats m 0 c).arrAt 3 cfg0.N
    = RowWrite.written (m ((c : Thread nD τ).loc main_arg1) (ix1 (0 : Fin 1))) (fun n => m ((c : Thread nD τ).loc main_arg0) (ix2 n (0 : Fin 1)))
        (m ((c : Thread nD τ).loc main_arg2)) := by
  refine (dats m 0 c).arrAt_eq_of_after_last 3 t0_0 (by decide +kernel) _ fun j => ?_
  blk_simp
  rw [after0_3]
  unfold outsAt0
  frame_out
  simp only [read_unread_whole]
  refine (Cert.KernelValue.stored _ _ _ j).trans ?_
  unfold RowWrite.written
  rw [block_word, block_params]
  refine if_congr (Eq.to_iff (congrArg (fun k => (m ((c : Thread nD τ).loc main_arg1) k).toInt = ((j 0).val : Int)) ?_)) (block_update m c (j 2)) rfl
  exact funext fun a => match a with
    | ⟨0, _⟩ => rfl

end Cert.KernelIdeal.RowValue

end
-- ==== Proof.ReferenceValue.lean ====
/- What the reference's result array holds, at any float values: its scatter reads as a row write (`RowWrite.written`) at the wrapped index word.
   The reference and its idealized reading are two programs with the same text, so the term is written once here (`scattered`) and met by each. -/
module

public import proofs.«01_k».proof.Proof.RowWrite
public import proofs.«01_k».proof.Proof.Gen.Reference.Run
public import proofs.«01_k».proof.Proof.Gen.ReferenceIdeal.Run
public import Idealize.ShloMosaic.Lib.Pointwise

@[expose] public section

noncomputable section

namespace Cert.ReferenceValue

open Cert.Reference Cert.Reference.Gen Idealize.ShloMosaic Idealize.ShloMosaic.TcCoe Idealize.SL.Sem

/-- The index words of the reference's scatter: per update the wrapped index word, zero, and the update's own number (itself wrapped, which changes
    nothing). -/
def words (i : IVec S1 32) : IVec S10x3 32 :=
  concatenate S10x3 1
    [⟨S10x1, broadcastInDim S10x1 ![0] bcast_S10_S10x1_0 (broadcastInDim S10 ![] bcast_S_S10
        (select (cmpi .slt (shapeCast S_ i shapeCasts_S1_S_) (constantI S_ 32 0#32))
          (addi (shapeCast S_ i shapeCasts_S1_S_) (constantI S_ 32 2#32)) (shapeCast S_ i shapeCasts_S1_S_)))⟩,
     ⟨S10x1, broadcastInDim S10x1 ![0] bcast_S10_S10x1_0 (id (broadcastInDim S10 ![] bcast_S_S10 (constantI S_ 32 0#32)))⟩,
     ⟨S10x1, broadcastInDim S10x1 ![0] bcast_S10_S10x1_0
        (select (cmpi .slt (iotaInDim S10 32 0) (broadcastInDim S10 ![] bcast_S_S10 (constantI S_ 32 0#32)))
          (addi (iotaInDim S10 32 0) (broadcastInDim S10 ![] bcast_S_S10 (constantI S_ 32 10#32))) (iotaInDim S10 32 0))⟩]
    concatenates_S10x1_S10x1_S10x1_S10x3_d1

/-- The reference's result as its operations compose it: the update, transposed to a row and read as a vector, scattered into the parameters. -/
def scattered {α : Type} (u : S10x1.Idx → α) (i : IVec S1 32) (x : S2x1x10.Idx → α) : S2x1x10.Idx → α :=
  Host.scatter scatter_S2x1x10_S10x3_S10_n_012_012_1 (fun _ b => b) x (words i)
    (shapeCast S10 (transpose S1x10 [1, 0] u transposes_S10x1_S1x10_1_0) shapeCasts_S1x10_S10)

theorem words_plane (i : IVec S1 32) (k : Fin 10) : words i (ix2 k (0 : Fin 3)) = RowWrite.wrap (i (ix1 (0 : Fin 1))) := by
  unfold words RowWrite.wrap
  pointwise
  rw [IntOp.cmpi, Scalar.select_ofBool]
  refine if_congr ?_ rfl rfl
  rw [BitVec.slt_iff_toInt_lt, BitVec.toInt_zero]

theorem words_middle (i : IVec S1 32) (k : Fin 10) : words i (ix2 k (1 : Fin 3)) = 0#32 := by
  unfold words
  pointwise
  rfl

theorem words_lane (i : IVec S1 32) (k : Fin 10) : (words i (ix2 k (2 : Fin 3))).toInt = (k.val : Int) := by
  unfold words
  pointwise
  revert k
  decide

theorem update_row {α : Type} (u : S10x1.Idx → α) (k : Fin 10) :
    shapeCast S10 (transpose S1x10 [1, 0] u transposes_S10x1_S1x10_1_0) shapeCasts_S1x10_S10 (ix1 k) = u (ix2 k (0 : Fin 1)) := by
  pointwise

/-- The reference's result is the row write at the index word, where that word is neither -1 nor -2. -/
theorem scattered_eq {α : Type} (u : S10x1.Idx → α) (i : IVec S1 32) (x : S2x1x10.Idx → α) (h1 : i (ix1 (0 : Fin 1)) ≠ 4294967295#32)
    (h2 : i (ix1 (0 : Fin 1)) ≠ 4294967294#32) :
    scattered u i x = RowWrite.written (i (ix1 (0 : Fin 1))) (fun n => u (ix2 n (0 : Fin 1))) x := by
  funext j
  refine (RowWrite.scatter_row scatter_S2x1x10_S10x3_S10_n_012_012_1 rfl rfl rfl rfl x (words i) _ (RowWrite.wrap (i (ix1 (0 : Fin 1))))
    (words_plane i) (words_middle i) (words_lane i) j).trans ?_
  unfold RowWrite.written
  exact if_congr (RowWrite.wrap_hits _ h1 h2 _) (update_row u (j 2)) rfl

end Cert.ReferenceValue

end
-- ==== Proof.Claims.lean ====
/- The claims that speak of results: from memories that agree on the arguments, and an index word that is neither -1 nor -2, the kernel and the
   reference end with the same array, at the extended reals and at the machine's own bits. -/
module

public import proofs.«01_k».proof.Proof.Condition
public import proofs.«01_k».proof.Proof.KernelValue
public import proofs.«01_k».proof.Proof.ReferenceValue
public import Idealize.ShloMosaic.Lib.Claim
public import Idealize.ShloMosaic.Lib.Quiescent

@[expose] public section

noncomputable section

namespace Cert.Claims

open Idealize.ShloMosaic Idealize.ShloMosaic.TcCoe Idealize.SL.Sem

attribute [local instance] Cert.Condition.facts

/-- At the extended reals the two result arrays agree. -/
theorem equal_ideal : Cert.algebraic_KernelIdeal_ReferenceIdeal_pre_no_wrapped_row := by
  pair_intro
  · run_from Cert.KernelIdeal.Value.run_blocks m g
  · run_from Cert.ReferenceIdeal.Value.run m' g'
    rw [Cert.KernelIdeal.RowValue.final m c]
    have hw := Cert.Condition.not_wrapped (hpre c)
    have he := Cert.ReferenceValue.scattered_eq (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2)) hw.1 hw.2
    exact Eq.trans (congrArg (fun i => Cert.ReferenceValue.scattered (m ((c : Thread Cert.KernelIdeal.nD Cert.KernelIdeal.τ).loc Cert.KernelIdeal.main_arg0)) i (m ((c : Thread Cert.KernelIdeal.nD Cert.KernelIdeal.τ).loc Cert.KernelIdeal.main_arg2))) (hagree c).2.1) he

/-- At the machine's bits the two result arrays agree. -/
theorem equal_bits : Cert.bitexact_Kernel_Reference_pre_no_wrapped_row := by
  pair_intro
  · run_from Cert.Kernel.Value.run_blocks m g
  · run_from Cert.Reference.Value.run m' g'
    rw [Cert.Kernel.RowValue.final m c]
    have hw := Cert.Condition.not_wrapped (hpre c)
    have he := Cert.ReferenceValue.scattered_eq (m ((c : Thread Cert.Kernel.nD Cert.Kernel.τ).loc Cert.Kernel.main_arg0))
      (m ((c : Thread Cert.Kernel.nD Cert.Kernel.τ).loc Cert.Kernel.main_arg1)) (m ((c : Thread Cert.Kernel.nD Cert.Kernel.τ).loc Cert.Kernel.main_arg2)) hw.1 hw.2
    exact Eq.trans (congrArg (fun i => Cert.ReferenceValue.scattered (m ((c : Thread Cert.Kernel.nD Cert.Kernel.τ).loc Cert.Kernel.main_arg0)) i (m ((c : Thread Cert.Kernel.nD Cert.Kernel.τ).loc Cert.Kernel.main_arg2))) (hagree c).2.1) he

/-- The reference runs at the extended reals, keeps its arguments and, having no counter at all, leaves every counter at zero. -/
theorem runs_ideal : Cert.quiescent_ReferenceIdeal := fun m g _ =>
  (θ_run _ _ _).mono (fun r h => ⟨fun c => (h c).2, sem_eq_zero_of_no_sems (by decide) r.2⟩) (Cert.ReferenceIdeal.Value.run m g)

/-- The same where the condition holds. -/
theorem runs_ideal_conditioned : Cert.quiescent_ReferenceIdeal_pre_no_wrapped_row := fun m g _ => runs_ideal m g trivial

/-- The reference runs at the machine's bits, keeps its arguments and, having no counter at all, leaves every counter at zero. -/
theorem runs_bits : Cert.quiescent_Reference := fun m g _ =>
  (θ_run _ _ _).mono (fun r h => ⟨fun c => (h c).2, sem_eq_zero_of_no_sems (by decide) r.2⟩) (Cert.Reference.Value.run m g)

end Cert.Claims

end
-- ==== Proof.lean ====
module

public import proofs.«01_k».proof.Defs
public import proofs.«01_k».proof.Proof.Gen.Kernel.Frame
public import proofs.«01_k».proof.Proof.Gen.KernelIdeal.Frame
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Reference.Gen.facts, Cert.Condition.facts,
    fun m ρ _ => Cert.Kernel.Gen.frame m ρ, fun m ρ _ => Cert.Kernel.Gen.frame m ρ,
    fun m ρ _ => Cert.KernelIdeal.Gen.frame m ρ, fun m ρ _ => Cert.KernelIdeal.Gen.frame m ρ,
    Cert.Claims.runs_ideal, Cert.Claims.runs_ideal_conditioned, Cert.Claims.runs_bits,
    trivial, Cert.Claims.equal_ideal, Cert.Claims.equal_bits⟩

end Cert.Proof

end
